-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_indices)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_indices) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x96x384x384 : Shape := ⟨4, ![4, 96, 384, 384]⟩
abbrev S16x96 : Shape := ⟨2, ![16, 96]⟩
abbrev S16 : Shape := ⟨1, ![16]⟩
abbrev S4x384x384 : Shape := ⟨3, ![4, 384, 384]⟩
abbrev S4x384x384x16 : Shape := ⟨4, ![4, 384, 384, 16]⟩
abbrev S1x96x8x384 : Shape := ⟨4, ![1, 96, 8, 384]⟩
abbrev S1x8x384 : Shape := ⟨3, ![1, 8, 384]⟩
abbrev S1x8x384x16 : Shape := ⟨4, ![1, 8, 384, 16]⟩
abbrev S96x8x384 : Shape := ⟨3, ![96, 8, 384]⟩
abbrev S96x3072 : Shape := ⟨2, ![96, 3072]⟩
abbrev S3072x16 : Shape := ⟨2, ![3072, 16]⟩
abbrev S1x16 : Shape := ⟨2, ![1, 16]⟩
abbrev S8x384x16 : Shape := ⟨3, ![8, 384, 16]⟩
abbrev S16x3072 : Shape := ⟨2, ![16, 3072]⟩
abbrev S16x1 : Shape := ⟨2, ![16, 1]⟩
abbrev S8x3072 : Shape := ⟨2, ![8, 3072]⟩
abbrev S4x3072 : Shape := ⟨2, ![4, 3072]⟩
abbrev S2x3072 : Shape := ⟨2, ![2, 3072]⟩
abbrev S1x3072 : Shape := ⟨2, ![1, 3072]⟩
abbrev S8x384 : Shape := ⟨2, ![8, 384]⟩
abbrev S4x378x378 : Shape := ⟨3, ![4, 378, 378]⟩
abbrev S4x1x378x378 : Shape := ⟨4, ![4, 1, 378, 378]⟩
abbrev S4x142884 : Shape := ⟨2, ![4, 142884]⟩
abbrev S4x1024 : Shape := ⟨2, ![4, 1024]⟩
abbrev S_ : Shape := ⟨0, ![]⟩
abbrev S4x147456x16 : Shape := ⟨3, ![4, 147456, 16]⟩
abbrev S4x1024x1 : Shape := ⟨3, ![4, 1024, 1]⟩
abbrev S1 : Shape := ⟨1, ![1]⟩
abbrev S1x1x1 : Shape := ⟨3, ![1, 1, 1]⟩
abbrev S4x1024x16 : Shape := ⟨3, ![4, 1024, 16]⟩

abbrev nBuf : Space → Nat
  | .hbm => 84
  | .vmem => 8
  | .smem => 0
  | _ => 0

abbrev bufTy : (tb : Table) → Fin (tcTables nBuf tb) → BufTy
  | .hbm, ⟨0, _⟩ => ⟨S4x96x384x384, .f32⟩
  | .hbm, ⟨1, _⟩ => ⟨S16x96, .f32⟩
  | .hbm, ⟨2, _⟩ => ⟨S16, .f32⟩
  | .hbm, ⟨3, _⟩ => ⟨S4x384x384, .f32⟩
  | .hbm, ⟨4, _⟩ => ⟨S4x384x384x16, .f32⟩
  | .hbm, ⟨5, _⟩ => ⟨S4x378x378, .f32⟩
  | .hbm, ⟨6, _⟩ => ⟨S4x1x378x378, .f32⟩
  | .hbm, ⟨7, _⟩ => ⟨S4x142884, .f32⟩
  | .hbm, ⟨8, _⟩ => ⟨S4x1024, .f32⟩
  | .hbm, ⟨9, _⟩ => ⟨S4x1024, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S4x1024, .i32⟩
  | .hbm, ⟨17, _⟩ => ⟨S4x1024, .i32⟩
  | .hbm, ⟨18, _⟩ => ⟨S_, .i32⟩
  | .hbm, ⟨19, _⟩ => ⟨S4x1024, .i32⟩
  | .hbm, ⟨20, _⟩ => ⟨S4x1024, .i1⟩
  | .hbm, ⟨21, _⟩ => ⟨S_, .i32⟩
  | .hbm, ⟨22, _⟩ => ⟨S4x1024, .i32⟩
  | .hbm, ⟨23, _⟩ => ⟨S4x1024, .i1⟩
  | .hbm, ⟨24, _⟩ => ⟨S_, .i32⟩
  | .hbm, ⟨25, _⟩ => ⟨S_, .i1⟩
  | .hbm, ⟨26, _⟩ => ⟨S4x1024, .i1⟩
  | .hbm, ⟨27, _⟩ => ⟨S4x1024, .i1⟩
  | .hbm, ⟨28, _⟩ => ⟨S4x1024, .i1⟩
  | .hbm, ⟨29, _⟩ => ⟨S4x1024, .i32⟩
  | .hbm, ⟨30, _⟩ => ⟨S4x1024, .i32⟩
  | .hbm, ⟨31, _⟩ => ⟨S4x1024, .i32⟩
  | .hbm, ⟨32, _⟩ => ⟨S_, .i32⟩
  | .hbm, ⟨33, _⟩ => ⟨S_, .i32⟩
  | .hbm, ⟨34, _⟩ => ⟨S4x1024, .i32⟩
  | .hbm, ⟨35, _⟩ => ⟨S4x1024, .i32⟩
  | .hbm, ⟨36, _⟩ => ⟨S4x1024, .i32⟩
  | .hbm, ⟨37, _⟩ => ⟨S_, .i32⟩
  | .hbm, ⟨38, _⟩ => ⟨S4x1024, .i32⟩
  | .hbm, ⟨39, _⟩ => ⟨S4x1024, .i1⟩
  | .hbm, ⟨40, _⟩ => ⟨S4x1024, .i32⟩
  | .hbm, ⟨41, _⟩ => ⟨S4x1024, .i32⟩
  | .hbm, ⟨42, _⟩ => ⟨S_, .i32⟩
  | .hbm, ⟨43, _⟩ => ⟨S4x1024, .i32⟩
  | .hbm, ⟨44, _⟩ => ⟨S4x1024, .i1⟩
  | .hbm, ⟨45, _⟩ => ⟨S4x1024, .i1⟩
  | .hbm, ⟨46, _⟩ => ⟨S_, .i32⟩
  | .hbm, ⟨47, _⟩ => ⟨S4x1024, .i32⟩
  | .hbm, ⟨48, _⟩ => ⟨S4x1024, .i32⟩
  | .hbm, ⟨49, _⟩ => ⟨S4x1024, .i32⟩
  | .hbm, ⟨50, _⟩ => ⟨S_, .i32⟩
  | .hbm, ⟨51, _⟩ => ⟨S4x1024, .i32⟩
  | .hbm, ⟨52, _⟩ => ⟨S4x1024, .i32⟩
  | .hbm, ⟨53, _⟩ => ⟨S_, .i32⟩
  | .hbm, ⟨54, _⟩ => ⟨S4x1024, .i32⟩
  | .hbm, ⟨55, _⟩ => ⟨S4x1024, .i32⟩
  | .hbm, ⟨56, _⟩ => ⟨S_, .i32⟩
  | .hbm, ⟨57, _⟩ => ⟨S4x1024, .i32⟩
  | .hbm, ⟨58, _⟩ => ⟨S4x1024, .i32⟩
  | .hbm, ⟨59, _⟩ => ⟨S4x1024, .i32⟩
  | .hbm, ⟨60, _⟩ => ⟨S4x147456x16, .f32⟩
  | .hbm, ⟨61, _⟩ => ⟨S4x1024x1, .i32⟩
  | .hbm, ⟨62, _⟩ => ⟨S_, .i32⟩
  | .hbm, ⟨63, _⟩ => ⟨S4x1024x1, .i32⟩
  | .hbm, ⟨64, _⟩ => ⟨S4x1024x1, .i1⟩
  | .hbm, ⟨65, _⟩ => ⟨S_, .i32⟩
  | .hbm, ⟨66, _⟩ => ⟨S4x1024x1, .i32⟩
  | .hbm, ⟨67, _⟩ => ⟨S4x1024x1, .i32⟩
  | .hbm, ⟨68, _⟩ => ⟨S4x1024x1, .i32⟩
  | .hbm, ⟨69, _⟩ => ⟨S1, .i32⟩
  | .hbm, ⟨70, _⟩ => ⟨S_, .i32⟩
  | .hbm, ⟨71, _⟩ => ⟨S4x1024x1, .i32⟩
  | .hbm, ⟨72, _⟩ => ⟨S4x1024x1, .i1⟩
  | .hbm, ⟨73, _⟩ => ⟨S1x1x1, .i32⟩
  | .hbm, ⟨74, _⟩ => ⟨S4x1024x1, .i32⟩
  | .hbm, ⟨75, _⟩ => ⟨S4x1024x1, .i1⟩
  | .hbm, ⟨76, _⟩ => ⟨S4x1024x1, .i1⟩
  | .hbm, ⟨77, _⟩ => ⟨S_, .i1⟩
  | .hbm, ⟨78, _⟩ => ⟨S4x1024, .i1⟩
  | .hbm, ⟨79, _⟩ => ⟨S4x1024x16, .f32⟩
  | .hbm, ⟨80, _⟩ => ⟨S4x1024x16, .i1⟩
  | .hbm, ⟨81, _⟩ => ⟨S_, .f32⟩
  | .hbm, ⟨82, _⟩ => ⟨S4x1024x16, .f32⟩
  | .hbm, ⟨83, _⟩ => ⟨S4x1024x16, .f32⟩
  | .local _ .vmem, ⟨0, _⟩ => ⟨S1x96x8x384, .f32⟩
  | .local _ .vmem, ⟨1, _⟩ => ⟨S1x96x8x384, .f32⟩
  | .local _ .vmem, ⟨2, _⟩ => ⟨S16x96, .f32⟩
  | .local _ .vmem, ⟨3, _⟩ => ⟨S16, .f32⟩
  | .local _ .vmem, ⟨4, _⟩ => ⟨S1x8x384, .f32⟩
  | .local _ .vmem, ⟨5, _⟩ => ⟨S1x8x384, .f32⟩
  | .local _ .vmem, ⟨6, _⟩ => ⟨S1x8x384x16, .f32⟩
  | .local _ .vmem, ⟨7, _⟩ => ⟨S1x8x384x16, .f32⟩
  | _, _ => ⟨S4x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_values : Ref sig .tc := ⟨.hbm, 8, rfl⟩
abbrev main_indices : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v4 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v5 : Ref sig .tc := ⟨.hbm, 49, rfl⟩
abbrev main_c_1 : Ref sig .tc := ⟨.hbm, 50, rfl⟩
abbrev main_v6 : Ref sig .tc := ⟨.hbm, 51, rfl⟩
abbrev main_v7 : Ref sig .tc := ⟨.hbm, 52, rfl⟩
abbrev main_c_2 : Ref sig .tc := ⟨.hbm, 53, rfl⟩
abbrev main_v8 : Ref sig .tc := ⟨.hbm, 54, rfl⟩
abbrev main_v9 : Ref sig .tc := ⟨.hbm, 55, rfl⟩
abbrev main_c_3 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_c_2 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_c_3 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_cst : Ref sig .tc := ⟨.hbm, 81, rfl⟩
abbrev main_call2_v14 : Ref sig .tc := ⟨.hbm, 82, rfl⟩
abbrev main_v15 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 48], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x96x8x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x384x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x96x384x384 : Shape := ⟨4, ![4, 96, 384, 384]⟩
abbrev S16x96 : Shape := ⟨2, ![16, 96]⟩
abbrev S16 : Shape := ⟨1, ![16]⟩
abbrev S4x96x378x378 : Shape := ⟨4, ![4, 96, 378, 378]⟩
abbrev S16x4x378x378 : Shape := ⟨4, ![16, 4, 378, 378]⟩
abbrev S4x16x378x378 : Shape := ⟨4, ![4, 16, 378, 378]⟩
abbrev S1x16x1x1 : Shape := ⟨4, ![1, 16, 1, 1]⟩
abbrev S_ : Shape := ⟨0, ![]⟩
abbrev S4x378x378 : Shape := ⟨3, ![4, 378, 378]⟩
abbrev S4x1x378x378 : Shape := ⟨4, ![4, 1, 378, 378]⟩
abbrev S4x142884 : Shape := ⟨2, ![4, 142884]⟩
abbrev S4x1024 : Shape := ⟨2, ![4, 1024]⟩
abbrev S4 : Shape := ⟨1, ![4]⟩
abbrev S4x1x1 : Shape := ⟨3, ![4, 1, 1]⟩
abbrev S1x16x1 : Shape := ⟨3, ![1, 16, 1]⟩
abbrev S4x1x1024 : Shape := ⟨3, ![4, 1, 1024]⟩
abbrev S4x16x1024 : Shape := ⟨3, ![4, 16, 1024]⟩
abbrev S4x16x1024x1 : Shape := ⟨4, ![4, 16, 1024, 1]⟩
abbrev S4x16x1024x4 : Shape := ⟨4, ![4, 16, 1024, 4]⟩
abbrev S4x1024x16 : Shape := ⟨3, ![4, 1024, 16]⟩

abbrev nBuf : Space → Nat
  | .hbm => 101
  | .vmem => 0
  | .smem => 0
  | _ => 0

abbrev bufTy : (tb : Table) → Fin (tcTables nBuf tb) → BufTy
  | .hbm, ⟨0, _⟩ => ⟨S4x96x384x384, .f32⟩
  | .hbm, ⟨1, _⟩ => ⟨S16x96, .f32⟩
  | .hbm, ⟨2, _⟩ => ⟨S16, .f32⟩
  | .hbm, ⟨3, _⟩ => ⟨S4x96x378x378, .f32⟩
  | .hbm, ⟨4, _⟩ => ⟨S16x4x378x378, .f32⟩
  | .hbm, ⟨5, _⟩ => ⟨S4x16x378x378, .f32⟩
  | .hbm, ⟨6, _⟩ => ⟨S1x16x1x1, .f32⟩
  | .hbm, ⟨7, _⟩ => ⟨S4x16x378x378, .f32⟩
  | .hbm, ⟨8, _⟩ => ⟨S4x16x378x378, .f32⟩
  | .hbm, ⟨9, _⟩ => ⟨S4x16x378x378, .f32⟩
  | .hbm, ⟨10, _⟩ => ⟨S_, .f32⟩
  | .hbm, ⟨11, _⟩ => ⟨S4x378x378, .f32⟩
  | .hbm, ⟨12, _⟩ => ⟨S4x1x378x378, .f32⟩
  | .hbm, ⟨13, _⟩ => ⟨S4x142884, .f32⟩
  | .hbm, ⟨14, _⟩ => ⟨S4x1024, .f32⟩
  | .hbm, ⟨15, _⟩ => ⟨S4x1024, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S4x1024, .i32⟩
  | .hbm, ⟨23, _⟩ => ⟨S4x1024, .i32⟩
  | .hbm, ⟨24, _⟩ => ⟨S_, .i32⟩
  | .hbm, ⟨25, _⟩ => ⟨S4x1024, .i32⟩
  | .hbm, ⟨26, _⟩ => ⟨S4x1024, .i1⟩
  | .hbm, ⟨27, _⟩ => ⟨S_, .i32⟩
  | .hbm, ⟨28, _⟩ => ⟨S4x1024, .i32⟩
  | .hbm, ⟨29, _⟩ => ⟨S4x1024, .i1⟩
  | .hbm, ⟨30, _⟩ => ⟨S_, .i32⟩
  | .hbm, ⟨31, _⟩ => ⟨S_, .i1⟩
  | .hbm, ⟨32, _⟩ => ⟨S4x1024, .i1⟩
  | .hbm, ⟨33, _⟩ => ⟨S4x1024, .i1⟩
  | .hbm, ⟨34, _⟩ => ⟨S4x1024, .i1⟩
  | .hbm, ⟨35, _⟩ => ⟨S4x1024, .i32⟩
  | .hbm, ⟨36, _⟩ => ⟨S4x1024, .i32⟩
  | .hbm, ⟨37, _⟩ => ⟨S4x1024, .i32⟩
  | .hbm, ⟨38, _⟩ => ⟨S_, .i32⟩
  | .hbm, ⟨39, _⟩ => ⟨S_, .i32⟩
  | .hbm, ⟨40, _⟩ => ⟨S4x1024, .i32⟩
  | .hbm, ⟨41, _⟩ => ⟨S4x1024, .i32⟩
  | .hbm, ⟨42, _⟩ => ⟨S4x1024, .i32⟩
  | .hbm, ⟨43, _⟩ => ⟨S_, .i32⟩
  | .hbm, ⟨44, _⟩ => ⟨S4x1024, .i32⟩
  | .hbm, ⟨45, _⟩ => ⟨S4x1024, .i1⟩
  | .hbm, ⟨46, _⟩ => ⟨S4x1024, .i32⟩
  | .hbm, ⟨47, _⟩ => ⟨S4x1024, .i32⟩
  | .hbm, ⟨48, _⟩ => ⟨S_, .i32⟩
  | .hbm, ⟨49, _⟩ => ⟨S4x1024, .i32⟩
  | .hbm, ⟨50, _⟩ => ⟨S4x1024, .i1⟩
  | .hbm, ⟨51, _⟩ => ⟨S4x1024, .i1⟩
  | .hbm, ⟨52, _⟩ => ⟨S_, .i32⟩
  | .hbm, ⟨53, _⟩ => ⟨S4x1024, .i32⟩
  | .hbm, ⟨54, _⟩ => ⟨S4x1024, .i32⟩
  | .hbm, ⟨55, _⟩ => ⟨S4x1024, .i32⟩
  | .hbm, ⟨56, _⟩ => ⟨S4, .i32⟩
  | .hbm, ⟨57, _⟩ => ⟨S4x1x1, .i32⟩
  | .hbm, ⟨58, _⟩ => ⟨S16, .i32⟩
  | .hbm, ⟨59, _⟩ => ⟨S1x16x1, .i32⟩
  | .hbm, ⟨60, _⟩ => ⟨S4x1x1024, .i32⟩
  | .hbm, ⟨61, _⟩ => ⟨S4x1x1024, .i32⟩
  | .hbm, ⟨62, _⟩ => ⟨S_, .i32⟩
  | .hbm, ⟨63, _⟩ => ⟨S4x1x1, .i32⟩
  | .hbm, ⟨64, _⟩ => ⟨S4x1x1, .i1⟩
  | .hbm, ⟨65, _⟩ => ⟨S_, .i32⟩
  | .hbm, ⟨66, _⟩ => ⟨S4x1x1, .i32⟩
  | .hbm, ⟨67, _⟩ => ⟨S4x1x1, .i32⟩
  | .hbm, ⟨68, _⟩ => ⟨S4x1x1, .i32⟩
  | .hbm, ⟨69, _⟩ => ⟨S_, .i32⟩
  | .hbm, ⟨70, _⟩ => ⟨S1x16x1, .i32⟩
  | .hbm, ⟨71, _⟩ => ⟨S1x16x1, .i1⟩
  | .hbm, ⟨72, _⟩ => ⟨S_, .i32⟩
  | .hbm, ⟨73, _⟩ => ⟨S1x16x1, .i32⟩
  | .hbm, ⟨74, _⟩ => ⟨S1x16x1, .i32⟩
  | .hbm, ⟨75, _⟩ => ⟨S1x16x1, .i32⟩
  | .hbm, ⟨76, _⟩ => ⟨S_, .i32⟩
  | .hbm, ⟨77, _⟩ => ⟨S4x1x1024, .i32⟩
  | .hbm, ⟨78, _⟩ => ⟨S4x1x1024, .i1⟩
  | .hbm, ⟨79, _⟩ => ⟨S_, .i32⟩
  | .hbm, ⟨80, _⟩ => ⟨S4x1x1024, .i32⟩
  | .hbm, ⟨81, _⟩ => ⟨S4x1x1024, .i32⟩
  | .hbm, ⟨82, _⟩ => ⟨S4x1x1024, .i32⟩
  | .hbm, ⟨83, _⟩ => ⟨S_, .i32⟩
  | .hbm, ⟨84, _⟩ => ⟨S4x1x1024, .i32⟩
  | .hbm, ⟨85, _⟩ => ⟨S4x1x1024, .i1⟩
  | .hbm, ⟨86, _⟩ => ⟨S_, .i32⟩
  | .hbm, ⟨87, _⟩ => ⟨S4x1x1024, .i32⟩
  | .hbm, ⟨88, _⟩ => ⟨S4x1x1024, .i32⟩
  | .hbm, ⟨89, _⟩ => ⟨S4x1x1024, .i32⟩
  | .hbm, ⟨90, _⟩ => ⟨S4x16x1024, .i32⟩
  | .hbm, ⟨91, _⟩ => ⟨S4x16x1024, .i32⟩
  | .hbm, ⟨92, _⟩ => ⟨S4x16x1024, .i32⟩
  | .hbm, ⟨93, _⟩ => ⟨S4x16x1024, .i32⟩
  | .hbm, ⟨94, _⟩ => ⟨S4x16x1024x1, .i32⟩
  | .hbm, ⟨95, _⟩ => ⟨S4x16x1024x1, .i32⟩
  | .hbm, ⟨96, _⟩ => ⟨S4x16x1024x1, .i32⟩
  | .hbm, ⟨97, _⟩ => ⟨S4x16x1024x1, .i32⟩
  | .hbm, ⟨98, _⟩ => ⟨S4x16x1024x4, .i32⟩
  | .hbm, ⟨99, _⟩ => ⟨S4x16x1024, .f32⟩
  | .hbm, ⟨100, _⟩ => ⟨S4x1024x16, .f32⟩
  | _, _ => ⟨S4x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_values : Ref sig .tc := ⟨.hbm, 14, rfl⟩
abbrev main_indices : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v10 : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_c_1 : Ref sig .tc := ⟨.hbm, 62, rfl⟩
abbrev main_v18 : Ref sig .tc := ⟨.hbm, 63, rfl⟩
abbrev main_v19 : Ref sig .tc := ⟨.hbm, 64, rfl⟩
abbrev main_c_2 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_c_3 : Ref sig .tc := ⟨.hbm, 69, rfl⟩
abbrev main_v23 : Ref sig .tc := ⟨.hbm, 70, rfl⟩
abbrev main_v24 : Ref sig .tc := ⟨.hbm, 71, rfl⟩
abbrev main_c_4 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_c_5 : Ref sig .tc := ⟨.hbm, 76, rfl⟩
abbrev main_v28 : Ref sig .tc := ⟨.hbm, 77, rfl⟩
abbrev main_v29 : Ref sig .tc := ⟨.hbm, 78, rfl⟩
abbrev main_c_6 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_c_7 : Ref sig .tc := ⟨.hbm, 83, rfl⟩
abbrev main_v33 : Ref sig .tc := ⟨.hbm, 84, rfl⟩
abbrev main_v34 : Ref sig .tc := ⟨.hbm, 85, rfl⟩
abbrev main_c_8 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩

abbrev nD : Nat := 1
abbrev τ : Topo := Topo.v7x

variable {F : FTy → Type} [FloatOps F]
-- ==== Proof.Words.lean ====
module

public import Idealize.ShloMosaic.Lib.Affine
public import Idealize.ShloMosaic.Lib.Pointwise

@[expose] public section

namespace Cert.Words

open Idealize.ShloMosaic

/-- The remainder of a word by a divisor as `%` of arrays computes it: a zero divisor replaced by one, and the divisor
    added where the remainder is not zero and has the other sign. -/
def remOf (w d : BitVec 32) : BitVec 32 :=
  Scalar.select
    (IntOp.andi
      (IntOp.cmpi .ne
        (IntOp.cmpi .slt (IntOp.remsi .host w (Scalar.select (IntOp.cmpi .eq d 0#32) (1#32) d)) 0#32)
        (IntOp.cmpi .slt (Scalar.select (IntOp.cmpi .eq d 0#32) (1#32) d) 0#32))
      (IntOp.cmpi .ne (IntOp.remsi .host w (Scalar.select (IntOp.cmpi .eq d 0#32) (1#32) d)) 0#32))
    (IntOp.addi (IntOp.remsi .host w (Scalar.select (IntOp.cmpi .eq d 0#32) (1#32) d))
      (Scalar.select (IntOp.cmpi .eq d 0#32) (1#32) d))
    (IntOp.remsi .host w (Scalar.select (IntOp.cmpi .eq d 0#32) (1#32) d))

/-- The quotient of a word by a divisor as `//` of arrays computes it: one subtracted where the signs differ and the
    division is not exact. -/
def divOf (w d : BitVec 32) : BitVec 32 :=
  Scalar.select
    (IntOp.andi
      (IntOp.cmpi .ne (if w = 0 then 0 else if w.msb = true then -1 else 1 : BitVec 32)
        (if d = 0 then 0 else if d.msb = true then -1 else 1 : BitVec 32))
      (IntOp.cmpi .ne (IntOp.remsi .host w d) 0#32))
    (IntOp.subi (IntOp.divsi .host w d) 1#32)
    (IntOp.divsi .host w d)

/-- A word with `k` added where it is negative, as an index counted from the end is read. -/
def wrapOf (k w : BitVec 32) : BitVec 32 :=
  Scalar.select (IntOp.cmpi .slt w 0#32) (IntOp.addi w k) w

/-- A word below `2 ^ 31` is its number. -/
theorem toNat_small {n : Nat} (h : n < 2 ^ 31) : (BitVec.ofNat 32 n).toNat = n := by
  rw [BitVec.toNat_ofNat]; omega

/-- Read with a sign, it is its number too. -/
theorem toInt_small {n : Nat} (h : n < 2 ^ 31) : (BitVec.ofNat 32 n).toInt = n := by
  rw [BitVec.toInt_eq_toNat_of_lt (by rw [toNat_small h]; omega), toNat_small h]

/-- Its sign bit is clear. -/
theorem msb_small {n : Nat} (h : n < 2 ^ 31) : (BitVec.ofNat 32 n).msb = false := by
  rw [BitVec.msb_eq_false_iff_two_mul_lt, toNat_small h]; omega

/-- A word below `2 ^ 31` is not negative. -/
theorem slt_small {n : Nat} (h : n < 2 ^ 31) : IntOp.cmpi .slt (BitVec.ofNat 32 n) 0#32 = 0#1 := by
  have e : ¬ IntOp.cmpi .slt (BitVec.ofNat 32 n) 0#32 = 1#1 := fun e => by
    have := IntOp.cmpi_slt.1 e
    rw [toInt_small h] at this
    exact absurd this (by rw [BitVec.toInt_zero]; omega)
  revert e
  generalize IntOp.cmpi .slt (BitVec.ofNat 32 n) 0#32 = c
  revert c; decide

/-- A word below `2 ^ 31` is its own reading from the end. -/
theorem wrapOf_small {n : Nat} (k : BitVec 32) (h : n < 2 ^ 31) : wrapOf k (BitVec.ofNat 32 n) = BitVec.ofNat 32 n := by
  unfold wrapOf; rw [slt_small h]; rfl

/-- The machine's remainder of two words below `2 ^ 31` is the remainder of their numbers. -/
theorem remsi_small {n k : Nat} (h : n < 2 ^ 31) (hk : 0 < k) (hk' : k < 2 ^ 31) :
    IntOp.remsi .host (BitVec.ofNat 32 n) (BitVec.ofNat 32 k) = BitVec.ofNat 32 (n % k) := by
  apply BitVec.eq_of_toNat_eq
  rw [IntOp.toNat_remsi .host (by rw [toNat_small h]; omega) k hk (by omega), toNat_small h,
    toNat_small (lt_trans (Nat.mod_lt _ hk) hk')]

/-- The machine's quotient of two words below `2 ^ 31` is the quotient of their numbers. -/
theorem divsi_small {n k : Nat} (h : n < 2 ^ 31) (hk : 0 < k) (hk' : k < 2 ^ 31) :
    IntOp.divsi .host (BitVec.ofNat 32 n) (BitVec.ofNat 32 k) = BitVec.ofNat 32 (n / k) := by
  apply BitVec.eq_of_toNat_eq
  rw [IntOp.divsi, if_neg (IntOp.not_corner_of_pos (by rw [toInt_small hk']; omega)), BitVec.sdiv_eq, msb_small h, msb_small hk']
  show (BitVec.ofNat 32 n / BitVec.ofNat 32 k).toNat = _
  rw [BitVec.toNat_udiv, toNat_small h, toNat_small hk', toNat_small (lt_of_le_of_lt (Nat.div_le_self _ _) h)]

/-- The remainder by 378 of a word below `2 ^ 31`. -/
theorem remOf_small {n : Nat} (h : n < 2 ^ 31) : remOf (BitVec.ofNat 32 n) 378#32 = BitVec.ofNat 32 (n % 378) := by
  have hr := remsi_small (k := 378) h (by omega) (by omega)
  have e : Scalar.select (IntOp.cmpi .eq 378#32 0#32) (1#32) 378#32 = 378#32 := by decide
  unfold remOf
  rw [e, hr, slt_small (by omega : n % 378 < 2 ^ 31), show IntOp.cmpi .slt 378#32 0#32 = 0#1 by decide,
    show IntOp.cmpi .ne 0#1 0#1 = 0#1 by decide]
  generalize IntOp.cmpi .ne (BitVec.ofNat 32 (n % 378)) 0#32 = c
  have hc : IntOp.andi 0#1 c = 0#1 := by revert c; decide
  rw [hc]; rfl

/-- The quotient by 378 of a word below `2 ^ 31`. -/
theorem divOf_small {n : Nat} (h : n < 2 ^ 31) : divOf (BitVec.ofNat 32 n) 378#32 = BitVec.ofNat 32 (n / 378) := by
  have hr := remsi_small (k := 378) h (by omega) (by omega)
  have hd := divsi_small (k := 378) h (by omega) (by omega)
  unfold divOf
  rw [hr, hd, msb_small h]
  by_cases hz : n = 0
  · subst hz; decide
  · have hw : BitVec.ofNat 32 n ≠ 0 := fun e => hz (by have := congrArg BitVec.toNat e; rw [toNat_small h] at this; exact this)
    rw [if_neg hw, if_neg (by decide : ¬ (false = true)),
      show IntOp.cmpi .ne (1 : BitVec 32) (if (378#32 : BitVec 32) = 0 then 0 else if (378#32 : BitVec 32).msb = true then -1 else 1) = 0#1 by decide]
    generalize IntOp.cmpi .ne (BitVec.ofNat 32 (n % 378)) 0#32 = c
    have hc : IntOp.andi 0#1 c = 0#1 := by revert c; decide
    rw [hc]; rfl

/-- The position in a 384-wide row-major image of the cell `(n / 378 + 3, n % 378 + 3)`. -/
theorem full_small {n : Nat} (h : n < 142884) :
    IntOp.addi (IntOp.muli (IntOp.addi (BitVec.ofNat 32 (n / 378)) 3#32) 384#32) (IntOp.addi (BitVec.ofNat 32 (n % 378)) 3#32)
      = BitVec.ofNat 32 ((n / 378 + 3) * 384 + (n % 378 + 3)) := by
  have hd : n / 378 < 378 := by omega
  have hm : n % 378 < 378 := by omega
  generalize n / 378 = q at *
  generalize n % 378 = r at *
  apply BitVec.eq_of_toNat_eq
  simp only [IntOp.addi, IntOp.muli, BitVec.toNat_add, BitVec.toNat_mul, BitVec.toNat_ofNat]
  omega

/-- The range test of a position below 147456 succeeds. -/
theorem inRange_small {n : Nat} (h : n < 147456) :
    IntOp.andi (IntOp.cmpi .sge (BitVec.ofNat 32 n) 0#32) (IntOp.cmpi .sle (BitVec.ofNat 32 n) 147455#32) = 1#1 := by
  rw [IntOp.andi_eq_one, IntOp.cmpi_sge, IntOp.cmpi_sle, toInt_small (by omega : n < 2 ^ 31), BitVec.toInt_zero,
    show (147455#32 : BitVec 32).toInt = 147455 by decide]
  omega

/-- Every index among the largest entries of a row names an entry of the row. -/
theorem topK_index {s t : Shape} (d : Nat) (hd : d < s.rank) {α : Type} (gt : α → α → BitVec 1) (x : s.Idx → α)
    (h : s.Slices (fun _ => 0) t) (j : t.Idx) : ∃ n, n < s.size ⟨d, hd⟩ ∧ (Host.topK t d gt x h).2 j = BitVec.ofNat 32 n := by
  unfold Host.topK
  dsimp only [extractStridedSlice]
  unfold Host.sort2
  rw [dif_pos hd]
  dsimp only
  rw [dif_pos hd]
  exact ⟨_, Fin.isLt _, rfl⟩

end Cert.Words
-- ==== Proof.Gather.lean ====
module

public import proofs.«01_k».proof.Proof.Words
public import proofs.«01_k».proof.Proof.Gen.KernelIdeal
public import proofs.«01_k».proof.Proof.Gen.ReferenceIdeal

@[expose] public section

namespace Cert.Gather

open Idealize.ShloMosaic Cert.Words

/-- The rows taken along axis 1 of a batch of tables: where `idx` holds the row number `n` at `(b, p)`, entry
    `(b, p, o)` is the entry `(b, n, o)` of the tables. -/
theorem take_row {α : Type} (x : (Cert.KernelIdeal.S4x147456x16).Idx → α) (idx : IVec Cert.KernelIdeal.S4x1024x1 32)
    (b : Fin 4) (p : Fin 1024) (o : Fin 16) (n : Fin 147456) (h : idx (ix3 b p (0 : Fin 1)) = BitVec.ofNat 32 n.val) :
    Host.gather Cert.KernelIdeal.gather_S4x147456x16_S4x1024x1_S4x1024x16_2_1_0_0_1_2_1116 x idx (ix3 b p o) = x (ix3 b n o) := by
  unfold Host.gather
  refine congrArg x (funext fun a => Fin.ext ?_)
  match a with
  | ⟨0, _⟩ => exact Nat.zero_add b.val
  | ⟨1, _⟩ =>
    have e : GatherDims.start Cert.KernelIdeal.gather_S4x147456x16_S4x1024x1_S4x1024x16_2_1_0_0_1_2_1116 (ix3 b p o) idx 1
        = min (idx (ix3 b p (0 : Fin 1))).toInt.toNat (147456 - 1) := by
      unfold GatherDims.start
      rw [dif_pos (by decide)]
      refine congrArg (fun i => min (idx i).toInt.toNat (147456 - 1)) (funext fun a => Fin.ext ?_)
      match a with
      | ⟨0, _⟩ => rfl
      | ⟨1, _⟩ => rfl
      | ⟨2, _⟩ => rfl
    refine (congrArg (fun k => k + 0 + 0) e).trans ?_
    rw [h, toInt_small (by omega)]
    show min n.val _ + 0 + 0 = n.val
    omega
  | ⟨2, _⟩ => exact (congrArg (· + o.val) (Nat.zero_add 0)).trans (Nat.zero_add _)

/-- Single entries taken at four coordinates: where `idx` holds at `(b, o, p)` the words of an index `(i, j, k, l)` of the
    operand, entry `(b, o, p)` is the operand's entry there. -/
theorem take_entry {α : Type} (x : (Cert.ReferenceIdeal.S4x16x378x378).Idx → α) (idx : IVec Cert.ReferenceIdeal.S4x16x1024x4 32)
    (b : Fin 4) (o : Fin 16) (p : Fin 1024) (i : Fin 4) (j : Fin 16) (k l : Fin 378)
    (h0 : idx (ix4 b o p (0 : Fin 4)) = BitVec.ofNat 32 i.val) (h1 : idx (ix4 b o p (1 : Fin 4)) = BitVec.ofNat 32 j.val)
    (h2 : idx (ix4 b o p (2 : Fin 4)) = BitVec.ofNat 32 k.val) (h3 : idx (ix4 b o p (3 : Fin 4)) = BitVec.ofNat 32 l.val) :
    Host.gather Cert.ReferenceIdeal.gather_S4x16x378x378_S4x16x1024x4_S4x16x1024_n_0123_n_n_0123_3_1111 x idx (ix3 b o p)
      = x (ix4 i j k l) := by
  have si (a : Fin 4) (ha) (c : Fin 4) (hc : List.idxOf a ([0, 1, 2, 3] : List (Fin 4)) = c.val) :
      Cert.ReferenceIdeal.gather_S4x16x378x378_S4x16x1024x4_S4x16x1024_n_0123_n_n_0123_3_1111.siIdx (ix3 b o p)
        ⟨List.idxOf a ([0, 1, 2, 3] : List (Fin 4)), ha⟩ = ix4 b o p c := by
    funext a
    apply Fin.ext
    match a with
    | ⟨0, _⟩ => rfl
    | ⟨1, _⟩ => rfl
    | ⟨2, _⟩ => rfl
    | ⟨3, _⟩ => exact hc
  unfold Host.gather
  refine congrArg x (funext fun a => Fin.ext ?_)
  have st (a c : Fin 4) (hc : List.idxOf a ([0, 1, 2, 3] : List (Fin 4)) = c.val) (ha : a ∈ ([0, 1, 2, 3] : List (Fin 4))) :
      GatherDims.start Cert.ReferenceIdeal.gather_S4x16x378x378_S4x16x1024x4_S4x16x1024_n_0123_n_n_0123_3_1111 (ix3 b o p) idx a
        = min (idx (ix4 b o p c)).toInt.toNat ((Cert.ReferenceIdeal.S4x16x378x378).size a - (![1, 1, 1, 1] : Fin 4 → Nat) a) := by
    unfold GatherDims.start
    refine (dif_pos ha).trans ?_
    exact congrArg (fun i => min (idx i).toInt.toNat ((Cert.ReferenceIdeal.S4x16x378x378).size a - (![1, 1, 1, 1] : Fin 4 → Nat) a)) (si a _ c hc)
  match a with
  | ⟨0, _⟩ =>
    refine (congrArg (fun k => k + 0 + 0) (st 0 0 (by decide) (by decide))).trans ?_
    rw [h0, toInt_small (by omega)]
    show min i.val (4 - 1) + 0 + 0 = i.val
    omega
  | ⟨1, _⟩ =>
    refine (congrArg (fun k => k + 0 + 0) (st 1 1 (by decide) (by decide))).trans ?_
    rw [h1, toInt_small (by omega)]
    show min j.val (16 - 1) + 0 + 0 = j.val
    omega
  | ⟨2, _⟩ =>
    refine (congrArg (fun k => k + 0 + 0) (st 2 2 (by decide) (by decide))).trans ?_
    rw [h2, toInt_small (by omega)]
    show min k.val (378 - 1) + 0 + 0 = k.val
    omega
  | ⟨3, _⟩ =>
    refine (congrArg (fun k => k + 0 + 0) (st 3 3 (by decide) (by decide))).trans ?_
    rw [h3, toInt_small (by omega)]
    show min l.val (378 - 1) + 0 + 0 = l.val
    omega

end Cert.Gather
-- ==== Proof.Tail.lean ====
module

public import proofs.«01_k».proof.Proof.Gather
public import proofs.«01_k».proof.Proof.Gen.KernelIdeal.Frame
public import Idealize.ShloMosaic.Lib.StableHlo.ReadAt
public import Idealize.ShloMosaic.Lib.Pointwise

@[expose] public section

noncomputable section

namespace Cert.KernelIdeal.Tail

open Idealize.ShloMosaic Idealize.ShloMosaic.StableHlo Cert.KernelIdeal Cert.KernelIdeal.Gen Cert.Words

variable (V : Valuation τ sig (Elt Ideal))

/-- The energy with the border cut off. -/
def cut (x : FVec Ideal S4x384x384 .f32) : FVec Ideal S4x378x378 .f32 :=
  extractStridedSlice S4x378x378 ![0, 3, 3] x slices_S4x384x384_S4x378x378_0_3_3

/-- The positions of the 1024 largest entries of each image of an energy. -/
def top (x : FVec Ideal S4x378x378 .f32) : IVec S4x1024 32 :=
  (Host.topK S4x1024 1 (FloatOps.cmpfTotal .gt) (shapeCast S4x142884 x shapeCasts_S4x378x378_S4x142884 : FVec Ideal S4x142884 .f32)
    sliceFits_S4x142884_S4x1024).2

/-- The first result is the energy with its border cut off. -/
theorem energy : (after hostOps1 V (Proc.devRef .tc main_v2) : FVec Ideal S4x1x378x378 .f32)
    = shapeCast S4x1x378x378 (cut (V (Proc.devRef .tc main_v0_0))) shapeCasts_S4x378x378_S4x1x378x378 := by
  after_reads_simp
  rfl

/-- The second result is the positions of the largest entries of that energy. -/
theorem indices : (after hostOps1 V (Proc.devRef .tc main_indices) : IVec S4x1024 32) = top (cut (V (Proc.devRef .tc main_v0_0))) := by
  after_reads_simp
  rfl

/-- The remainder is by 378. -/
theorem divisor : (after hostOps1 V (Proc.devRef .tc main_c) : IVec S_ 32) = constantI S_ 32 378#32 := by
  after_reads_simp

/-- The quotient is by 378. -/
theorem divisor' : (after hostOps1_2 V (Proc.devRef .tc main_c_0) : IVec S_ 32) = constantI S_ 32 378#32 := by
  after_reads_simp

/-- The remainder's line at an entry. -/
theorem rem_at (b : Fin 4) (p : Fin 1024) : (after hostOps1_1 V (Proc.devRef .tc main_v4) : IVec S4x1024 32) (ix2 b p)
    = remOf ((V (Proc.devRef .tc main_indices) : IVec S4x1024 32) (ix2 b p)) ((V (Proc.devRef .tc main_c) : IVec S_ 32) ix0) := by
  after_reads_at
  rfl

/-- The quotient's line at an entry. -/
theorem div_at (b : Fin 4) (p : Fin 1024) : (after hostOps1_3 V (Proc.devRef .tc main_v5) : IVec S4x1024 32) (ix2 b p)
    = divOf ((V (Proc.devRef .tc main_indices) : IVec S4x1024 32) (ix2 b p)) ((V (Proc.devRef .tc main_c_0) : IVec S_ 32) ix0) := by
  after_reads_at
  rfl

/-- The position in the uncut image, at an entry. -/
theorem full_at (b : Fin 4) (p : Fin 1024) (z : Fin 1) :
    (after hostOps1_4 V (Proc.devRef .tc main_v14) : IVec S4x1024x1 32) (ix3 b p z)
      = IntOp.addi (IntOp.muli (IntOp.addi ((V (Proc.devRef .tc main_v5) : IVec S4x1024 32) (ix2 b p)) 3#32) 384#32)
          (IntOp.addi ((V (Proc.devRef .tc main_v4) : IVec S4x1024 32) (ix2 b p)) 3#32) := by
  after_reads_at

/-- The features with the image's two axes made one, at an entry. -/
theorem flat_at (b : Fin 4) (p : Fin 147456) (o : Fin 16) :
    (after hostOps1_4 V (Proc.devRef .tc main_v13) : FVec Ideal S4x147456x16 .f32) (ix3 b p o)
      = (V (Proc.devRef .tc main_v0_1) : FVec Ideal S4x384x384x16 .f32)
          (ix4 b ⟨p.val / 384, by omega⟩ ⟨p.val % 384, by omega⟩ o) := by
  after_reads_at

/-- The rows taken, at an entry whose row number is in range. -/
theorem take_at (b : Fin 4) (p : Fin 1024) (o : Fin 16) (n : Fin 147456)
    (h : (V (Proc.devRef .tc main_v14) : IVec S4x1024x1 32) (ix3 b p (0 : Fin 1)) = BitVec.ofNat 32 n.val) :
    (after hostOps1_5 V (Proc.devRef .tc main_v15) : FVec Ideal S4x1024x16 .f32) (ix3 b p o)
      = (V (Proc.devRef .tc main_v13) : FVec Ideal S4x147456x16 .f32) (ix3 b n o) := by
  after_reads_at
  have hw := wrapOf_small 147456#32 (by omega : n.val < 2 ^ 31)
  unfold wrapOf at hw
  rw [show (Finset.univ : Finset (Fin 1)) = {0} from rfl, Finset.fold_singleton, h, hw, inRange_small n.isLt,
    show IntOp.andi 1#1 1#1 = 1#1 by decide]
  refine (if_pos rfl).trans (Cert.Gather.take_row _ _ b p o n ?_)
  pointwise
  rw [h, hw]

/-- The lines after the region, one after the other. -/
theorem after_lines (W : Valuation τ sig (Elt Ideal)) :
    after (List.flatten [hostOps1, hostOps1_1, hostOps1_2, hostOps1_3, hostOps1_4, hostOps1_5]) W
      = after hostOps1_5 (after hostOps1_4 (after hostOps1_3 (after hostOps1_2 (after hostOps1_1 (after hostOps1 W))))) := by
  rw [← after_append, ← after_append, ← after_append, ← after_append, ← after_append]
  rfl

/-- What the lines after the first leave of a buffer none of them writes. -/
theorem after_lines_keep (r : Ref sig .tc)
    (h1 : r ∉ hostOps1_1_W) (h2 : r ∉ hostOps1_2_W) (h3 : r ∉ hostOps1_3_W) (h4 : r ∉ hostOps1_4_W) (h5 : r ∉ hostOps1_5_W) :
    after (List.flatten [hostOps1, hostOps1_1, hostOps1_2, hostOps1_3, hostOps1_4, hostOps1_5]) V (Proc.devRef .tc r)
      = after hostOps1 V (Proc.devRef .tc r) := by
  rw [after_lines, after_of_writes_sub _ _ hostOps1_5_writes h5, after_of_writes_sub _ _ hostOps1_4_writes h4,
    after_of_writes_sub _ _ hostOps1_3_writes h3, after_of_writes_sub _ _ hostOps1_2_writes h2,
    after_of_writes_sub _ _ hostOps1_1_writes h1]

/-- The row number the last line reads at an entry whose position word is `n`. -/
theorem row_at (b : Fin 4) (p : Fin 1024) (n : Fin 142884)
    (h : top (cut (V (Proc.devRef .tc main_v0_0))) (ix2 b p) = BitVec.ofNat 32 n.val) :
    (after hostOps1_4 (after hostOps1_3 (after hostOps1_2 (after hostOps1_1 (after hostOps1 V)))) (Proc.devRef .tc main_v14) : IVec S4x1024x1 32)
      (ix3 b p (0 : Fin 1)) = BitVec.ofNat 32 ((n.val / 378 + 3) * 384 + (n.val % 378 + 3)) := by
  have hn : n.val < 2 ^ 31 := by omega
  rw [full_at, div_at, after_of_writes_sub _ _ hostOps1_3_writes (r := main_v4) (by decide),
    after_of_writes_sub _ _ hostOps1_2_writes (r := main_v4) (by decide), rem_at, divisor', divisor,
    after_of_writes_sub _ _ hostOps1_2_writes (r := main_indices) (by decide),
    after_of_writes_sub _ _ hostOps1_1_writes (r := main_indices) (by decide), indices, h]
  show IntOp.addi (IntOp.muli (IntOp.addi (divOf _ 378#32) _) _) (IntOp.addi (remOf _ 378#32) _) = _
  rw [divOf_small hn, remOf_small hn, full_small n.isLt]

/-- The third result at an entry whose position word is `n`: the features of the cell that position names. -/
theorem features (b : Fin 4) (p : Fin 1024) (o : Fin 16) (n : Fin 142884)
    (h : top (cut (V (Proc.devRef .tc main_v0_0))) (ix2 b p) = BitVec.ofNat 32 n.val) :
    (after (List.flatten [hostOps1, hostOps1_1, hostOps1_2, hostOps1_3, hostOps1_4, hostOps1_5]) V (Proc.devRef .tc main_v15) : FVec Ideal S4x1024x16 .f32) (ix3 b p o)
      = (V (Proc.devRef .tc main_v0_1) : FVec Ideal S4x384x384x16 .f32)
          (ix4 b ⟨n.val / 378 + 3, by omega⟩ ⟨n.val % 378 + 3, by omega⟩ o) := by
  have hd : n.val / 378 < 378 := by omega
  have hm : n.val % 378 < 378 := by omega
  rw [after_lines, take_at _ b p o ⟨(n.val / 378 + 3) * 384 + (n.val % 378 + 3), by omega⟩ (row_at V b p n h), flat_at,
    after_of_writes_sub _ _ hostOps1_3_writes (r := main_v0_1) (by decide),
    after_of_writes_sub _ _ hostOps1_2_writes (r := main_v0_1) (by decide),
    after_of_writes_sub _ _ hostOps1_1_writes (r := main_v0_1) (by decide),
    after_of_writes_sub _ _ hostOps1_writes (r := main_v0_1) (by decide)]
  congr 2 <;> apply Fin.ext <;> dsimp only <;> omega

end Cert.KernelIdeal.Tail
end
-- ==== Proof.Block.lean ====
module

public import proofs.«01_k».proof.Proof.Gen.KernelIdeal.Skeleton
public import Idealize.ShloMosaic.Lib.Pointwise

@[expose] public section

noncomputable section

namespace Cert.KernelIdeal.Block

open Idealize.ShloMosaic Cert.KernelIdeal Cert.KernelIdeal.Gen

variable (f : FVec Ideal S1x96x8x384 .f32) (w : FVec Ideal S16x96 .f32) (v : FVec Ideal S16 .f32)

/-- One feature of a block at one of its cells: the weights' row times the cell's channels, plus the bias. -/
def cell (h : Fin 8) (x : Fin 384) (o : Fin 16) : EReal :=
  (∑ k : Fin 96, w (ix2 o k) * f (ix4 (0 : Fin 1) k h x)) + v (ix1 o)

/-- The stored features are the cells' features. -/
theorem pay2_at (z : Fin 1) (h : Fin 8) (x : Fin 384) (o : Fin 16) :
    (k0_pay2 f w v : FVec Ideal S1x8x384x16 .f32) (ix4 z h x o) = cell f w v h x o := by
  unfold k0_pay2 k0_pay1 cell
  pointwise
  exact congrArg (· + v (ix1 o)) (Finset.sum_congr rfl fun k _ => mul_comm _ _)

/-- Sixteen terms added by halving: each of the first half to its opposite in the second, down to one. -/
theorem sum_halving {M : Type} [AddCommMonoid M] (g : Fin 16 → M) :
    g 0 + g 8 + (g 4 + g 12) + (g 2 + g 10 + (g 6 + g 14)) + (g 1 + g 9 + (g 5 + g 13) + (g 3 + g 11 + (g 7 + g 15)))
      = ∑ o : Fin 16, g o := by
  rw [show (∑ o : Fin 16, g o) = (∑ o : Fin (8 + 8), g o) from rfl, Fin.sum_univ_add, Fin.sum_univ_eight, Fin.sum_univ_eight]
  show _ = g 0 + g 1 + g 2 + g 3 + g 4 + g 5 + g 6 + g 7 + (g 8 + g 9 + g 10 + g 11 + g 12 + g 13 + g 14 + g 15)
  ac_rfl

/-- The stored energy is the sum of the squares of the cell's features. -/
theorem pay3_at (z : Fin 1) (h : Fin 8) (x : Fin 384) :
    (k0_pay3 f w v : FVec Ideal S1x8x384 .f32) (ix3 z h x) = ∑ o : Fin 16, cell f w v h x o * cell f w v h x o := by
  unfold k0_pay3 k0_pay1 cell
  pointwise
  exact sum_halving fun o => cell f w v h x o * cell f w v h x o

end Cert.KernelIdeal.Block
end
-- ==== Proof.Arrays.lean ====
module

public import proofs.«01_k».proof.Proof.Block
public import proofs.«01_k».proof.Proof.Gen.KernelIdeal.Frame
public import Idealize.ShloMosaic.Lib.Pipeline.ValueKit
public import Idealize.ShloMosaic.Lib.Pipeline.ValueKit.Point
public import Idealize.ShloMosaic.Lib.Pipeline.Covers

@[expose] public section

set_option maxRecDepth 16384

noncomputable section

namespace Cert.KernelIdeal.Arrays

open Idealize.ShloMosaic Idealize.ShloMosaic.TcCoe Idealize.ShloMosaic.Pipeline Cert.KernelIdeal Cert.KernelIdeal.Gen Cert.KernelIdeal.Block

variable (m : (ℓ : Loc nD τ sig) → Buf (Elt Ideal) ℓ) (c : Dev nD)

/-- Feature `o` of the cell `(h, x)` of image `b`: the weights' row `o` times the cell's channels, plus the bias. -/
def feat (f : FVec Ideal S4x96x384x384 .f32) (w : FVec Ideal S16x96 .f32) (v : FVec Ideal S16 .f32)
    (b : Fin 4) (h x : Fin 384) (o : Fin 16) : EReal :=
  (∑ k : Fin 96, w (ix2 o k) * f (ix4 b k h x)) + v (ix1 o)

/-- The features of every cell. -/
def feats (f : FVec Ideal S4x96x384x384 .f32) (w : FVec Ideal S16x96 .f32) (v : FVec Ideal S16 .f32) : FVec Ideal S4x384x384x16 .f32 :=
  fun i => feat f w v (i 0) (i 1) (i 2) (i 3)

/-- The energy of every cell: the sum of the squares of its features. -/
def energies (f : FVec Ideal S4x96x384x384 .f32) (w : FVec Ideal S16x96 .f32) (v : FVec Ideal S16 .f32) : FVec Ideal S4x384x384 .f32 :=
  fun i => ∑ o : Fin 16, feat f w v (i 0) (i 1) (i 2) o * feat f w v (i 0) (i 1) (i 2) o

/-- Which block each window is on at each point of the grid. -/
theorem idx : ∀ t : Fin cfg0.N, win0_0.index t = ![t.val / 48, 0, t.val % 48, 0] ∧ win0_1.index t = ![0, 0] ∧ win0_2.index t = ![0]
    ∧ win0_3.index t = ![t.val / 48, t.val % 48, 0] ∧ win0_4.index t = ![t.val / 48, t.val % 48, 0, 0] :=
  (by decide +kernel : ∀ t : Fin grid0.N, _)

/-- A stored block of energies, over the whole arrays. -/
theorem point3 (t : Fin cfg0.N) (y : S1x8x384.Idx) :
    (k0_pay3 (iblk m c 0 t) (iblk m c 1 t) (iblk m c 2 t) : FVec Ideal S1x8x384 .f32) y
      = energies (m ((c.tc : Thread nD τ).loc main_arg0)) (m ((c.tc : Thread nD τ).loc main_arg1)) (m ((c.tc : Thread nD τ).loc main_arg2))
          (((cfg0.win 3).blk t).view.emb y) := by
  idx_vars y
  refine (pay3_at _ _ _ _ _ _).trans ?_
  simp only [energies, feat, cell]
  blk_point [iblk, V, idx t]

/-- A stored block of features, over the whole arrays. -/
theorem point4 (t : Fin cfg0.N) (y : S1x8x384x16.Idx) :
    (k0_pay2 (iblk m c 0 t) (iblk m c 1 t) (iblk m c 2 t) : FVec Ideal S1x8x384x16 .f32) y
      = feats (m ((c.tc : Thread nD τ).loc main_arg0)) (m ((c.tc : Thread nD τ).loc main_arg1)) (m ((c.tc : Thread nD τ).loc main_arg2))
          (((cfg0.win 4).blk t).view.emb y) := by
  idx_vars y
  refine (pay2_at _ _ _ _ _ _ _).trans ?_
  simp only [feats, feat, cell]
  blk_point [iblk, V, idx t]

/-- The energies' array after the run. -/
theorem energies_eq : (dats m 0 c).arrAt 3 cfg0.N
    = energies (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  frame_out
  exact point3 m c t y

/-- The features' array after the run. -/
theorem feats_eq : (dats m 0 c).arrAt 4 cfg0.N
    = feats (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after0_4]
  frame_out
  exact point4 m c t y

end Cert.KernelIdeal.Arrays
end
-- ==== Proof.Picked.lean ====
module

public import proofs.«01_k».proof.Proof.Tail
public import proofs.«01_k».proof.Proof.Arrays

@[expose] public section

noncomputable section

namespace Cert.KernelIdeal.Picked

open Idealize.ShloMosaic Idealize.ShloMosaic.TcCoe Cert.KernelIdeal Cert.KernelIdeal.Gen
open Cert.KernelIdeal.Arrays Cert.KernelIdeal.Tail Cert.Words

/-- The position in a cut image of its `p`-th largest energy. -/
def spot (f : FVec Ideal S4x96x384x384 .f32) (w : FVec Ideal S16x96 .f32) (v : FVec Ideal S16 .f32) (b : Fin 4) (p : Fin 1024) : Nat :=
  (top (cut (energies f w v)) (ix2 b p)).toNat

/-- The features of the cells of largest energy: a position counts the cells of the cut image row by row, and the cut
    drops the first three rows and columns. -/
def picked (f : FVec Ideal S4x96x384x384 .f32) (w : FVec Ideal S16x96 .f32) (v : FVec Ideal S16 .f32) : FVec Ideal S4x1024x16 .f32 :=
  fun i => feat f w v (i 0) ⟨(spot f w v (i 0) (i 1) / 378 + 3) % 384, Nat.mod_lt _ (by decide)⟩
    ⟨(spot f w v (i 0) (i 1) % 378 + 3) % 384, Nat.mod_lt _ (by decide)⟩ (i 2)

variable (f : FVec Ideal S4x96x384x384 .f32) (w : FVec Ideal S16x96 .f32) (v : FVec Ideal S16 .f32)

/-- A position is one of the cut image's cells. -/
theorem top_at (x : FVec Ideal S4x378x378 .f32) (b : Fin 4) (p : Fin 1024) :
    ∃ n : Fin 142884, top x (ix2 b p) = BitVec.ofNat 32 n.val := by
  obtain ⟨n, hn, e⟩ := topK_index (t := S4x1024) 1 (by decide) (FloatOps.cmpfTotal (F := Ideal) (φ := .f32) .gt)
    (shapeCast S4x142884 x shapeCasts_S4x378x378_S4x142884 : FVec Ideal S4x142884 .f32) sliceFits_S4x142884_S4x1024 (ix2 b p)
  exact ⟨⟨n, hn⟩, e⟩

/-- Where the position is known, so is the cell whose features are taken. -/
theorem picked_at (b : Fin 4) (p : Fin 1024) (o : Fin 16) (n : Fin 142884) (h : top (cut (energies f w v)) (ix2 b p) = BitVec.ofNat 32 n.val) :
    picked f w v (ix3 b p o) = feat f w v b ⟨n.val / 378 + 3, by omega⟩ ⟨n.val % 378 + 3, by omega⟩ o := by
  have e : spot f w v b p = n.val := by unfold spot; rw [h, toNat_small (by omega)]
  have e1 : (⟨(spot f w v b p / 378 + 3) % 384, Nat.mod_lt _ (by decide)⟩ : Fin 384) = ⟨n.val / 378 + 3, by omega⟩ :=
    Fin.ext (by rw [e]; dsimp only; omega)
  have e2 : (⟨(spot f w v b p % 378 + 3) % 384, Nat.mod_lt _ (by decide)⟩ : Fin 384) = ⟨n.val % 378 + 3, by omega⟩ :=
    Fin.ext (by rw [e]; dsimp only; omega)
  exact congrArg₂ (fun h x => feat f w v b h x o) e1 e2

end Cert.KernelIdeal.Picked
end
-- ==== Proof.KernelRun.lean ====
module

public import proofs.«01_k».proof.Proof.Picked

@[expose] public section

noncomputable section

namespace Cert.KernelIdeal.Result

open Idealize.ShloMosaic Idealize.ShloMosaic.TcCoe Idealize.SL.Sem Cert.KernelIdeal Cert.KernelIdeal.Gen
open Cert.KernelIdeal.Arrays Cert.KernelIdeal.Tail Cert.KernelIdeal.Picked

variable (m : (ℓ : Loc nD τ sig) → Buf (Elt Ideal) ℓ) (ρ : Dev nD → PrngReg) (c : Dev nD)

/-- What every buffer holds when the grid is done. -/
def mid : Valuation τ sig (Elt Ideal) :=
  Pipeline.withArrays (cfgs 0).spec c (V0 m c) fun w => (dats m 0 c).arrAt w (cfgs 0).N

/-- No two windows are on one array. -/
theorem arrays_distinct : Function.Injective (Pipeline.arrRef spec0) := by decide +kernel

/-- When the grid is done the fourth window's array holds the energies. -/
theorem mid_energies : (mid m c (Proc.devRef .tc main_v0_0) : FVec Ideal S4x384x384 .f32)
    = energies (m ((c.tc : Thread nD τ).loc main_arg0)) (m ((c.tc : Thread nD τ).loc main_arg1)) (m ((c.tc : Thread nD τ).loc main_arg2)) :=
  (Pipeline.withArrays_arr spec0 arrays_distinct c (V0 m c) (fun w => (dats m 0 c).arrAt w cfg0.N) 3).trans (energies_eq m c)

/-- When the grid is done the fifth window's array holds the features. -/
theorem mid_feats : (mid m c (Proc.devRef .tc main_v0_1) : FVec Ideal S4x384x384x16 .f32)
    = feats (m ((c.tc : Thread nD τ).loc main_arg0)) (m ((c.tc : Thread nD τ).loc main_arg1)) (m ((c.tc : Thread nD τ).loc main_arg2)) :=
  (Pipeline.withArrays_arr spec0 arrays_distinct c (V0 m c) (fun w => (dats m 0 c).arrAt w cfg0.N) 4).trans (feats_eq m c)

/-- The lines after the grid leave the cut energy in the first result. -/
theorem first : (Pipeline.afterTail₀ cfgs (dats m) 0 (V0 m) [hostOps1, hostOps1_1, hostOps1_2, hostOps1_3, hostOps1_4, hostOps1_5] c main_v2 : FVec Ideal S4x1x378x378 .f32)
    = shapeCast S4x1x378x378 (cut (energies (m ((c.tc : Thread nD τ).loc main_arg0)) (m ((c.tc : Thread nD τ).loc main_arg1)) (m ((c.tc : Thread nD τ).loc main_arg2)))) shapeCasts_S4x378x378_S4x1x378x378 := by
  rw [← mid_energies, ← energy]
  exact after_lines_keep (mid m c) main_v2 (by decide) (by decide) (by decide) (by decide) (by decide)

/-- They leave the positions of its largest entries in the second. -/
theorem second : (Pipeline.afterTail₀ cfgs (dats m) 0 (V0 m) [hostOps1, hostOps1_1, hostOps1_2, hostOps1_3, hostOps1_4, hostOps1_5] c main_indices : IVec S4x1024 32)
    = top (cut (energies (m ((c.tc : Thread nD τ).loc main_arg0)) (m ((c.tc : Thread nD τ).loc main_arg1)) (m ((c.tc : Thread nD τ).loc main_arg2)))) := by
  rw [← mid_energies, ← indices]
  exact after_lines_keep (mid m c) main_indices (by decide) (by decide) (by decide) (by decide) (by decide)

/-- They leave the features found there in the third. -/
theorem third : (Pipeline.afterTail₀ cfgs (dats m) 0 (V0 m) [hostOps1, hostOps1_1, hostOps1_2, hostOps1_3, hostOps1_4, hostOps1_5] c main_v15 : FVec Ideal S4x1024x16 .f32)
    = picked (m ((c.tc : Thread nD τ).loc main_arg0)) (m ((c.tc : Thread nD τ).loc main_arg1)) (m ((c.tc : Thread nD τ).loc main_arg2)) := by
  funext i
  idx_vars i
  obtain ⟨n, h⟩ := top_at (cut (energies (m ((c.tc : Thread nD τ).loc main_arg0)) (m ((c.tc : Thread nD τ).loc main_arg1)) (m ((c.tc : Thread nD τ).loc main_arg2)))) i0 i1
  rw [picked_at _ _ _ i0 i1 i2 n h]
  rw [← mid_energies] at h
  refine (features (mid m c) i0 i1 i2 n h).trans ?_
  rw [mid_feats]
  rfl

/-- The kernel ends, with its results these functions of its arguments, and its arguments as they were. -/
theorem run : θ_run defs (onTc (τ := τ) (main (F := Ideal))) ⟨m, fun _ => 0, ρ⟩ fun r => ∀ c : Dev nD,
      r.2.mem ((c.tc : Thread nD τ).loc main_v2) = (shapeCast S4x1x378x378 (cut (energies (m ((c.tc : Thread nD τ).loc main_arg0)) (m ((c.tc : Thread nD τ).loc main_arg1)) (m ((c.tc : Thread nD τ).loc main_arg2)))) shapeCasts_S4x378x378_S4x1x378x378 : FVec Ideal S4x1x378x378 .f32)
      ∧ r.2.mem ((c.tc : Thread nD τ).loc main_indices) = (top (cut (energies (m ((c.tc : Thread nD τ).loc main_arg0)) (m ((c.tc : Thread nD τ).loc main_arg1)) (m ((c.tc : Thread nD τ).loc main_arg2)))) : IVec S4x1024 32)
      ∧ r.2.mem ((c.tc : Thread nD τ).loc main_v15) = (picked (m ((c.tc : Thread nD τ).loc main_arg0)) (m ((c.tc : Thread nD τ).loc main_arg1)) (m ((c.tc : Thread nD τ).loc main_arg2)) : FVec Ideal S4x1024x16 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h.1 c).2 main_v2 (Pipeline.mem_restRefs_of main_v2 (by decide) (by decide))).trans (first m c),
        ((h.1 c).2 main_indices (Pipeline.mem_restRefs_of main_indices (by decide) (by decide))).trans (second m c),
        ((h.1 c).2 main_v15 (Pipeline.mem_restRefs_of main_v15 (by decide) (by decide))).trans (third m c), h.2 c⟩)
    (θ_run_and (run_main m ρ) (unchanged m ρ))

end Cert.KernelIdeal.Result
end
-- ==== Proof.Reference.lean ====
module

public import proofs.«01_k».proof.Proof.Gather
public import proofs.«01_k».proof.Proof.Picked
public import proofs.«01_k».proof.Proof.Gen.ReferenceIdeal.Run
public import Idealize.ShloMosaic.Lib.Pointwise

@[expose] public section

noncomputable section

namespace Cert.ReferenceIdeal.Reading

open Idealize.ShloMosaic Idealize.ShloMosaic.TcCoe Cert.ReferenceIdeal Cert.ReferenceIdeal.Gen Cert.ReferenceIdeal.Value
open Cert.KernelIdeal.Arrays Cert.KernelIdeal.Tail Cert.Words

/-- The reference's features of the image with its first three rows and columns, and its last three, cut off. -/
def planes (f : FVec Ideal S4x96x384x384 .f32) (w : FVec Ideal S16x96 .f32) (v : FVec Ideal S16 .f32) : FVec Ideal S4x16x378x378 .f32 :=
  addf
    (transpose S4x16x378x378 [1, 0, 2, 3]
      (Host.dotGeneral dot_S16x96_S4x96x378x378_S16x4x378x378_1_1_0_023_n_n none w
        (extractStridedSlice S4x96x378x378 ![0, 0, 3, 3] f slices_S4x96x384x384_S4x96x378x378_0_0_3_3))
      transposes_S16x4x378x378_S4x16x378x378_1_0_2_3)
    (broadcastInDim S4x16x378x378 ![0, 1, 2, 3] bcast_S1x16x1x1_S4x16x378x378_0_1_2_3
      (broadcastInDim S1x16x1x1 ![1] bcast_S16_S1x16x1x1_1 v))

/-- The reference's energy. -/
def energy (f : FVec Ideal S4x96x384x384 .f32) (w : FVec Ideal S16x96 .f32) (v : FVec Ideal S16 .f32) : FVec Ideal S4x1x378x378 .f32 :=
  broadcastInDim S4x1x378x378 ![0, 2, 3] bcast_S4x378x378_S4x1x378x378_0_2_3
    (Host.reduceAdd (mulf (planes f w v) (planes f w v)) (constant S_ .f32 0x00000000#32) reducesTo_S4x16x378x378_S4x378x378_d1 h_S_)

variable (f : FVec Ideal S4x96x384x384 .f32) (w : FVec Ideal S16x96 .f32) (v : FVec Ideal S16 .f32)

/-- A plane's entry is the feature of the cell three rows and three columns further. -/
theorem planes_at (b : Fin 4) (o : Fin 16) (h x : Fin 378) :
    planes f w v (ix4 b o h x) = feat f w v b ⟨h.val + 3, by omega⟩ ⟨x.val + 3, by omega⟩ o := by
  unfold planes feat
  pointwise
  simp only [Nat.add_comm 3]

/-- The reference's energy is the kernel's with the border cut off. -/
theorem energy_eq : energy f w v
    = shapeCast Cert.KernelIdeal.S4x1x378x378 (cut (energies f w v)) Cert.KernelIdeal.Gen.shapeCasts_S4x378x378_S4x1x378x378 := by
  funext i
  idx_vars i
  unfold energy cut
  pointwise
  simp only [planes_at, Nat.add_comm 3]
  rfl

/-- The reference's positions are those of the largest entries of the kernel's energy. -/
theorem indices_eq : (Host.topK S4x1024 1 (FloatOps.cmpfTotal .gt)
      (shapeCast S4x142884 (energy f w v) shapeCasts_S4x1x378x378_S4x142884 : FVec Ideal S4x142884 .f32) sliceFits_S4x142884_S4x1024).2
    = top (cut (energies f w v)) := by
  rw [energy_eq, shapeCast_comp]
  rfl

variable (m : (ℓ : Loc nD τ sig) → Buf (Elt Ideal) ℓ) (c : Dev nD)

/-- Where the reference's position is the word of `n`, its output's row is the plane's entries in row `n / 378` and column `n % 378`. -/
theorem out_at (b : Fin 4) (p : Fin 1024) (o : Fin 16) (n : Fin 142884)
    (h : (Host.topK S4x1024 1 (FloatOps.cmpfTotal .gt)
      (shapeCast S4x142884 (energy (m ((c.tc : Thread nD τ).loc main_arg0)) (m ((c.tc : Thread nD τ).loc main_arg1)) (m ((c.tc : Thread nD τ).loc main_arg2))) shapeCasts_S4x1x378x378_S4x142884 : FVec Ideal S4x142884 .f32) sliceFits_S4x142884_S4x1024).2 (ix2 b p) = BitVec.ofNat 32 n.val) :
   (res_main_v48 m c : FVec Ideal S4x1024x16 .f32) (ix3 b p o) = planes (m ((c.tc : Thread nD τ).loc main_arg0)) (m ((c.tc : Thread nD τ).loc main_arg1)) (m ((c.tc : Thread nD τ).loc main_arg2)) (ix4 b o ⟨n.val / 378, by omega⟩ ⟨n.val % 378, by omega⟩) := by
  unfold res_main_v48
  unfold energy planes at h
  revert h
  unfold planes
  generalize (Host.topK S4x1024 1 _ _ _).2 = I
  intro h
  have hd : n.val / 378 < 378 := by omega
  have hm : n.val % 378 < 378 := by omega
  have eD : divOf (I (ix2 b p)) 378#32 = BitVec.ofNat 32 (n.val / 378) := by rw [h, divOf_small (by omega)]
  have eR : remOf (I (ix2 b p)) 378#32 = BitVec.ofNat 32 (n.val % 378) := by rw [h, remOf_small (by omega)]
  have tr (X : FVec Ideal S4x16x1024 .f32) :
      transpose S4x1024x16 [0, 2, 1] X transposes_S4x16x1024_S4x1024x16_0_2_1 (ix3 b p o) = X (ix3 b o p) := by pointwise
  refine (tr _).trans (Cert.Gather.take_entry _ _ b o p b o ⟨n.val / 378, by omega⟩ ⟨n.val % 378, by omega⟩ ?_ ?_ ?_ ?_)
  · pointwise
    exact wrapOf_small 4#32 (n := b.val) (by omega)
  · pointwise
    exact wrapOf_small 16#32 (n := o.val) (by omega)
  · pointwise
    change wrapOf 378#32 (divOf (I (ix2 b p)) 378#32) = BitVec.ofNat 32 (n.val / 378)
    rw [eD, wrapOf_small 378#32 (by omega)]
  · pointwise
    change wrapOf 378#32 (remOf (I (ix2 b p)) 378#32) = BitVec.ofNat 32 (n.val % 378)
    rw [eR, wrapOf_small 378#32 (by omega)]

/-- The reference's output is the features of the cells of largest energy. -/
theorem out_eq : (res_main_v48 m c : FVec Ideal S4x1024x16 .f32)
    = Cert.KernelIdeal.Picked.picked (m ((c.tc : Thread nD τ).loc main_arg0)) (m ((c.tc : Thread nD τ).loc main_arg1)) (m ((c.tc : Thread nD τ).loc main_arg2)) := by
  funext i
  idx_vars i
  obtain ⟨n, h⟩ := Cert.KernelIdeal.Picked.top_at (cut (energies (m ((c.tc : Thread nD τ).loc main_arg0)) (m ((c.tc : Thread nD τ).loc main_arg1)) (m ((c.tc : Thread nD τ).loc main_arg2)))) i0 i1
  rw [Cert.KernelIdeal.Picked.picked_at _ _ _ i0 i1 i2 n h]
  rw [← indices_eq] at h
  rw [out_at m c i0 i1 i2 n h, planes_at]

end Cert.ReferenceIdeal.Reading
end
-- ==== Proof.lean ====
/- The proof of the five claims: what the kernel computes is in KernelRun, what the reference computes in Reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Reference
public import Idealize.ShloMosaic.Adequacy
public import Idealize.ShloMosaic.Init

@[expose] public section

noncomputable section

namespace Cert.Proof

open Idealize.ShloMosaic Idealize.SL.Sem Cert.Kernel

/-- From equal arguments the kernel and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, Cert.KernelIdeal.Result.run m g, ?_⟩
  refine (θ_run (Cert.ReferenceIdeal.defs (F := Ideal)) _ _).mono (fun r h c => ?_) (Cert.ReferenceIdeal.Value.run (F := Ideal) m' g')
  obtain ⟨hv, hi, ho, h0, h1, h2⟩ := h c
  obtain ⟨e0, e1, e2⟩ := hargs c
  refine ⟨hv.trans ?_, hi.trans ?_, ho.trans ?_, h0, h1, h2⟩
  · rw [← e0, ← e1, ← e2]
    exact Cert.ReferenceIdeal.Reading.energy_eq _ _ _
  · rw [← e0, ← e1, ← e2]
    exact Cert.ReferenceIdeal.Reading.indices_eq _ _ _
  · rw [← e0, ← e1, ← e2]
    exact Cert.ReferenceIdeal.Reading.out_eq m' c

/-- The reference ends with its arguments as they were and every counter at zero. -/
theorem frame_reference : Cert.quiescent_ReferenceIdeal (hReferenceIdeal := Cert.ReferenceIdeal.Gen.facts) := by
  intro m g _
  exact (θ_run Cert.ReferenceIdeal.defs _ _).mono (fun r h => ⟨fun c => (h c).2.2.2, sem_eq_zero_of_no_sems (by decide) r.2⟩)
    (Cert.ReferenceIdeal.Value.run (F := Ideal) m g)

/-- The claims about the kernel: its frame and its idealization's, the reference's frame, and the equality of results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
